-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  bcast_S_S1024x64 : S_.BroadcastsInDim S1024x64 (![] : Fin 0 → Fin S1024x64.rank)

variable [Facts]

def fn {F : FTy → Type} [FloatOps F] (main_arg0 : FVec F S16x64x32x32 .f32) (main_arg1 : FVec F S1024x64 .f32) : IVec S16x64x32x32 1 × IVec S1024x64 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S16x1024x64 : Shape := ⟨3, ![16, 1024, 64]⟩
abbrev S16384x64 : Shape := ⟨2, ![16384, 64]⟩
abbrev S8x2048x1024 : Shape := ⟨3, ![8, 2048, 1024]⟩
abbrev S8x1x2048 : Shape := ⟨3, ![8, 1, 2048]⟩
abbrev S8x1x1 : Shape := ⟨3, ![8, 1, 1]⟩
abbrev S8x1x1024 : Shape := ⟨3, ![8, 1, 1024]⟩
abbrev S2048x64 : Shape := ⟨2, ![2048, 64]⟩
abbrev S1x2048x1024 : Shape := ⟨3, ![1, 2048, 1024]⟩
abbrev S1x1x2048 : Shape := ⟨3, ![1, 1, 2048]⟩
abbrev S1x1x1 : Shape := ⟨3, ![1, 1, 1]⟩
abbrev S1x1x1024 : Shape := ⟨3, ![1, 1, 1024]⟩
abbrev S1024x2048 : Shape := ⟨2, ![1024, 2048]⟩
abbrev S2048 : Shape := ⟨1, ![2048]⟩
abbrev S1024 : Shape := ⟨1, ![1024]⟩
abbrev S1024x1 : Shape := ⟨2, ![1024, 1]⟩
abbrev S1x2048 : Shape := ⟨2, ![1, 2048]⟩
abbrev S2048x1024 : Shape := ⟨2, ![2048, 1024]⟩
abbrev S2048x1 : Shape := ⟨2, ![2048, 1]⟩
abbrev S1x2048x64 : Shape := ⟨3, ![1, 2048, 64]⟩
abbrev S1 : Shape := ⟨1, ![1]⟩
abbrev S1x1024 : Shape := ⟨2, ![1, 1024]⟩
abbrev S_ : Shape := ⟨0, ![]⟩
abbrev S8x1024 : Shape := ⟨2, ![8, 1024]⟩
abbrev S16384x1024 : Shape := ⟨2, ![16384, 1024]⟩
abbrev S16384 : Shape := ⟨1, ![16384]⟩

abbrev nBuf : Space → Nat
  | .hbm => 36
  | .vmem => 13
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S16x1024x64, .f32⟩
  | .hbm, ⟨4, _⟩ => ⟨S16384x64, .f32⟩
  | .hbm, ⟨5, _⟩ => ⟨S8x2048x1024, .f32⟩
  | .hbm, ⟨6, _⟩ => ⟨S16384x64, .f32⟩
  | .hbm, ⟨7, _⟩ => ⟨S8x1x2048, .i32⟩
  | .hbm, ⟨8, _⟩ => ⟨S8x1x1, .f32⟩
  | .hbm, ⟨9, _⟩ => ⟨S8x1x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x1024, .f32⟩
  | .hbm, ⟨32, _⟩ => ⟨S16384, .i32⟩
  | .hbm, ⟨33, _⟩ => ⟨S16x1024x64, .f32⟩
  | .hbm, ⟨34, _⟩ => ⟨S16x64x1024, .f32⟩
  | .hbm, ⟨35, _⟩ => ⟨S16x64x32x32, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1x2048x1024, .f32⟩
  | .local _ .vmem, ⟨4, _⟩ => ⟨S1x2048x1024, .f32⟩
  | .local _ .vmem, ⟨5, _⟩ => ⟨S2048x64, .f32⟩
  | .local _ .vmem, ⟨6, _⟩ => ⟨S2048x64, .f32⟩
  | .local _ .vmem, ⟨7, _⟩ => ⟨S1x1x2048, .i32⟩
  | .local _ .vmem, ⟨8, _⟩ => ⟨S1x1x2048, .i32⟩
  | .local _ .vmem, ⟨9, _⟩ => ⟨S1x1x1, .f32⟩
  | .local _ .vmem, ⟨10, _⟩ => ⟨S1x1x1, .f32⟩
  | .local _ .vmem, ⟨11, _⟩ => ⟨S1x1x1024, .f32⟩
  | .local _ .vmem, ⟨12, _⟩ => ⟨S1x1x1024, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x64, .f32⟩
  | .hbm, ⟨33, _⟩ => ⟨S16x32x32x64, .f32⟩
  | .hbm, ⟨34, _⟩ => ⟨S16x64x32x32, .f32⟩
  | .hbm, ⟨35, _⟩ => ⟨S16x64x32x32, .f32⟩
  | .hbm, ⟨36, _⟩ => ⟨S16x64x32x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x64x32x32, .f32⟩
  | .hbm, ⟨44, _⟩ => ⟨S16x64x32x32, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Vq.RefRun.lean ====
/-
  The reference's run: the plain mathematics, one named array per step, and the statement that the run ends with
  its five results at those arrays and its arguments unchanged.
-/
module

public import proofs.«01_k».proof.Defs
public import proofs.«01_k».proof.Proof.Gen.ReferenceIdeal
public import Idealize.ShloMosaic.Lib.Claim
public import Idealize.ShloMosaic.Lib.StableHlo.RunRead
public import Idealize.ShloMosaic.Lib.Quiescent
public import Idealize.ShloMosaic.Lib.Tactic.CleanTypes

@[expose] public section

set_option maxRecDepth 16384

noncomputable section

namespace Cert.ReferenceIdeal.Plain

open Idealize.ShloMosaic Idealize.ShloMosaic.TcCoe Idealize.SL.Sem
open Cert.ReferenceIdeal Cert.ReferenceIdeal.Facts Cert.ReferenceIdeal.Facts₀

variable (z : FVec Ideal S16x64x32x32 .f32) (e : FVec Ideal S1024x64 .f32)

/-- The pixels of the picture as rows, one row of 64 channels a pixel. -/
def rows : FVec Ideal S16384x64 .f32 :=
  shapeCast S16384x64 (transpose S16x32x32x64 [0, 2, 3, 1] z transposes_S16x64x32x32_S16x32x32x64_0_2_3_1)
    shapeCasts_S16x32x32x64_S16384x64

/-- The squared length of every row. -/
def rowSq : FVec Ideal S16384 .f32 :=
  Host.reduceAdd (mulf (rows z) (rows z)) (constant S_ .f32 0x00000000#32) reducesTo_S16384x64_S16384_d1 h_S_

/-- The squared length of every codebook row. -/
def codeSq : FVec Ideal S1024 .f32 :=
  Host.reduceAdd (mulf e e) (constant S_ .f32 0x00000000#32) reducesTo_S1024x64_S1024_d1 h_S_

/-- The scalar product of every row with every codebook row. -/
def scores : FVec Ideal S16384x1024 .f32 :=
  Host.dotGeneral dot_S16384x64_S64x1024_S16384x1024_1_0_0_1_n_n none (rows z)
    (transpose S64x1024 [1, 0] e transposes_S1024x64_S64x1024_1_0)

/-- The squared distance of every row to every codebook row. -/
def dist : FVec Ideal S16384x1024 .f32 :=
  subf (addf
      (broadcastInDim S16384x1024 ![0, 1] bcast_S16384x1_S16384x1024_0_1
        (broadcastInDim S16384x1 ![0] bcast_S16384_S16384x1_0 (rowSq z)))
      (broadcastInDim S16384x1024 ![0, 1] bcast_S1x1024_S16384x1024_0_1
        (broadcastInDim S1x1024 ![1] bcast_S1024_S1x1024_1 (codeSq e))))
    (mulf (broadcastInDim S16384x1024 ![] bcast_S_S16384x1024 (constant S_ .f32 0x40000000#32)) (scores z e))

/-- The number of the nearest codebook row, row by row (the first of equally near ones). -/
def index : IVec S16384 32 := fun j =>
  (Host.argReduce reducer_argmin_f32_i32 (dist z e) (iotaInDim S16384x1024 32 1)
    (constant S_ .f32 0x7F800000#32) (constantI S_ 32 0#32) reducesTo_S16384x1024_S16384_d1 h_S_ j).2

/-- The one-hot matrix of an array of indices. -/
def oneHotOf (ix : IVec S16384 32) : FVec Ideal S16384x1024 .f32 :=
  uitofp .f32 (cmpi .eq
    (broadcastInDim S16384x1024 ![0, 1] bcast_S16384x1_S16384x1024_0_1
      (broadcastInDim S16384x1 ![0] bcast_S16384_S16384x1_0 ix))
    (broadcastInDim S16384x1024 ![0, 1] bcast_S1x1024_S16384x1024_0_1 (iotaInDim S1x1024 32 1)))

/-- The one-hot matrix of the indices of the nearest codebook rows. -/
def oneHot : FVec Ideal S16384x1024 .f32 := oneHotOf (index z e)

/-- The one-hot matrix times the codebook. -/
def picked : FVec Ideal S16384x64 .f32 :=
  Host.dotGeneral dot_S16384x1024_S1024x64_S16384x64_1_0_0_1_n_n none (oneHot z e) e

/-- The picked codebook rows as a picture. -/
def quant : FVec Ideal S16x64x32x32 .f32 :=
  transpose S16x64x32x32 [0, 3, 1, 2] (shapeCast S16x32x32x64 (picked z e) shapeCasts_S16384x64_S16x32x32x64)
    transposes_S16x32x32x64_S16x64x32x32_0_3_1_2

/-- The commitment loss. -/
def loss : FVec Ideal S_ .f32 :=
  mulf (Host.divf
      (Host.reduceAdd (mulf (subf (quant z e) z) (subf (quant z e) z)) (constant S_ .f32 0x00000000#32)
        reducesTo_S16x64x32x32_S_d0_1_2_3 h_S_)
      (constant S_ .f32 0x49800000#32))
    (constant S_ .f32 0x3E800000#32)

/-- The straight-through picture. -/
def through : FVec Ideal S16x64x32x32 .f32 := addf z (subf (quant z e) z)

/-- How often each codebook row is picked. -/
def counts : FVec Ideal S1024 .f32 :=
  Host.reduceAdd (oneHot z e) (constant S_ .f32 0x00000000#32) reducesTo_S16384x1024_S1024_d0 h_S_

/-- The mean of the one-hot rows. -/
def probs : FVec Ideal S1024 .f32 :=
  Host.divf (counts z e) (broadcastInDim S1024 ![] bcast_S_S1024 (constant S_ .f32 0x46800000#32))

/-- The perplexity. -/
def perplexity : FVec Ideal S_ .f32 :=
  Host.exp (Host.negf (Host.reduceAdd
    (mulf (probs z e)
      (Host.log (addf (probs z e) (broadcastInDim S1024 ![] bcast_S_S1024 (constant S_ .f32 0x2EDBE6FF#32)))))
    (constant S_ .f32 0x00000000#32) reducesTo_S1024_S_d0 h_S_))

/-! ## The run -/

/-- The reference's operations, in order: the list that `main` runs. -/
def line : { ops : List (HloOp τ sig (Elt Ideal)) // ∀ c : Dev nD, StableHlo.IsSeq (main (F := Ideal) c) ops } := by
  apply Subtype.mk
  hlo_seq

/-- The operations themselves. -/
abbrev ops : List (HloOp τ sig (Elt Ideal)) := line.1

section Reads

variable (V : Valuation τ sig (Elt Ideal))

/-- Before the one-hot matrix is formed, the index array is the arg-min of the distances. -/
theorem at24_index : StableHlo.upto ops V 24 (no_index (Proc.devRef .tc main_v16))
    = index (V (Proc.devRef .tc main_arg0)) (V (Proc.devRef .tc main_arg1)) := by
  after_reads_simp
  clean_types
  simp only [StableHlo.TRef.toBuf, StableHlo.TRef.ofBuf, cast_eq]
  unfold index dist scores codeSq rowSq rows
  rfl

/-- A value stored in a buffer and read back is the value. -/
theorem of_to {T : BufTy} (x : StableHlo.TRef sig T) (v : T.Contents (Elt Ideal)) :
    x.ofBuf (x.toBuf v) = v := by
  simp only [StableHlo.TRef.toBuf, StableHlo.TRef.ofBuf, cast_cast, cast_eq]

/-- A stored value is the value, across the equality of the types. -/
theorem to_heq {T : BufTy} (x : StableHlo.TRef sig T) (v : T.Contents (Elt Ideal)) :
    x.toBuf v ≍ v := by
  unfold StableHlo.TRef.toBuf; exact cast_heq _ _

/-- A value read is the contents, across the equality of the types. -/
theorem of_heq {T : BufTy} (x : StableHlo.TRef sig T) (v : x.ref.ty.Contents (Elt Ideal)) :
    x.ofBuf v ≍ v := by
  unfold StableHlo.TRef.ofBuf; exact cast_heq _ _

/-- Before the codebook rows are picked, the one-hot matrix is that of the indices. -/
theorem at30_oneHot : StableHlo.upto ops V 30 (no_index (Proc.devRef .tc main_v17))
    = oneHot (V (Proc.devRef .tc main_arg0)) (V (Proc.devRef .tc main_arg1)) := by
  after_reads_simp [at24_index]
  unfold oneHot
  generalize index _ _ = ix
  simp only [of_to]
  refine eq_of_heq ((to_heq _ _).trans (heq_of_eq ?_))
  generalize hx : (StableHlo.TRef.of main_v16 main_call0._proof_13 main_call0._proof_14
    main_call0._proof_15).ofBuf (Val := Elt Ideal) ix = x
  have hx : x = ix := hx.symm.trans (eq_of_heq (of_heq _ _))
  rw [hx]
  rfl

/-- It is still there before the counts are formed. -/
theorem at44_oneHot : StableHlo.upto ops V 44 (no_index (Proc.devRef .tc main_v17))
    = oneHot (V (Proc.devRef .tc main_arg0)) (V (Proc.devRef .tc main_arg1)) := by
  after_reads_simp [at24_index]
  unfold oneHot
  generalize index _ _ = ix
  simp only [of_to]
  refine eq_of_heq ((to_heq _ _).trans (heq_of_eq ?_))
  generalize hx : (StableHlo.TRef.of main_v16 main_call0._proof_13 main_call0._proof_14
    main_call0._proof_15).ofBuf (Val := Elt Ideal) ix = x
  have hx : x = ix := hx.symm.trans (eq_of_heq (of_heq _ _))
  rw [hx]
  rfl

/-- The picked rows as a picture, before the loss is formed. -/
theorem at33_quant : StableHlo.upto ops V 33 (no_index (Proc.devRef .tc main_v20))
    = quant (V (Proc.devRef .tc main_arg0)) (V (Proc.devRef .tc main_arg1)) := by
  after_reads_simp [at30_oneHot]
  unfold quant picked
  rfl

/-- They are still there before the straight-through picture is formed. -/
theorem at41_quant : StableHlo.upto ops V 41 (no_index (Proc.devRef .tc main_v20))
    = quant (V (Proc.devRef .tc main_arg0)) (V (Proc.devRef .tc main_arg1)) := by
  after_reads_simp [at30_oneHot]
  unfold quant picked
  rfl

/-- The first result. -/
theorem after_loss : StableHlo.after ops V (Proc.devRef .tc main_v25)
    = loss (V (Proc.devRef .tc main_arg0)) (V (Proc.devRef .tc main_arg1)) := by
  after_reads_simp [at33_quant]
  unfold loss
  rfl

/-- The second result. -/
theorem after_through : StableHlo.after ops V (Proc.devRef .tc main_v27)
    = through (V (Proc.devRef .tc main_arg0)) (V (Proc.devRef .tc main_arg1)) := by
  after_reads_simp [at41_quant]
  unfold through
  rfl

/-- The third result. -/
theorem after_perplexity : StableHlo.after ops V (Proc.devRef .tc main_v37)
    = perplexity (V (Proc.devRef .tc main_arg0)) (V (Proc.devRef .tc main_arg1)) := by
  after_reads_simp [at44_oneHot]
  unfold perplexity probs counts
  rfl

/-- The fourth result. -/
theorem after_oneHot : StableHlo.after ops V (Proc.devRef .tc main_v17)
    = oneHot (V (Proc.devRef .tc main_arg0)) (V (Proc.devRef .tc main_arg1)) := by
  after_reads_simp [at24_index]
  unfold oneHot
  generalize index _ _ = ix
  simp only [of_to]
  refine eq_of_heq ((to_heq _ _).trans (heq_of_eq ?_))
  generalize hx : (StableHlo.TRef.of main_v16 main_call0._proof_13 main_call0._proof_14
    main_call0._proof_15).ofBuf (Val := Elt Ideal) ix = x
  have hx : x = ix := hx.symm.trans (eq_of_heq (of_heq _ _))
  rw [hx]
  rfl

/-- The fifth result. -/
theorem after_index : StableHlo.after ops V (Proc.devRef .tc main_v16)
    = index (V (Proc.devRef .tc main_arg0)) (V (Proc.devRef .tc main_arg1)) := by
  after_reads_simp []
  clean_types
  simp only [StableHlo.TRef.toBuf, StableHlo.TRef.ofBuf, cast_eq]
  unfold index dist scores codeSq rowSq rows
  rfl

/-- No operation writes the first argument. -/
theorem after_arg0 : StableHlo.after ops V (Proc.devRef .tc main_arg0) = V (Proc.devRef .tc main_arg0) := by
  after_reads_simp

/-- No operation writes the second argument. -/
theorem after_arg1 : StableHlo.after ops V (Proc.devRef .tc main_arg1) = V (Proc.devRef .tc main_arg1) := by
  after_reads_simp

end Reads

variable (m : (ℓ : Loc nD τ sig) → Buf (Elt Ideal) ℓ) (ρ : Dev nD → PrngReg)

/-- The reference runs; its results end at the named arrays of its arguments, and its arguments end unchanged. -/
theorem run : θ_run defs (onTc (τ := τ) (main (F := Ideal))) ⟨m, fun _ => 0, ρ⟩ fun r => ∀ c : Dev nD,
      r.2.mem ((c.tc : Thread nD τ).loc main_v25)
        = loss (m ((c.tc : Thread nD τ).loc main_arg0)) (m ((c.tc : Thread nD τ).loc main_arg1))
      ∧ r.2.mem ((c.tc : Thread nD τ).loc main_v27)
        = through (m ((c.tc : Thread nD τ).loc main_arg0)) (m ((c.tc : Thread nD τ).loc main_arg1))
      ∧ r.2.mem ((c.tc : Thread nD τ).loc main_v37)
        = perplexity (m ((c.tc : Thread nD τ).loc main_arg0)) (m ((c.tc : Thread nD τ).loc main_arg1))
      ∧ r.2.mem ((c.tc : Thread nD τ).loc main_v17)
        = oneHot (m ((c.tc : Thread nD τ).loc main_arg0)) (m ((c.tc : Thread nD τ).loc main_arg1))
      ∧ r.2.mem ((c.tc : Thread nD τ).loc main_v16)
        = index (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (after_loss _), (h c main_v27).trans (after_through _),
      (h c main_v37).trans (after_perplexity _), (h c main_v17).trans (after_oneHot _),
      (h c main_v16).trans (after_index _), (h c main_arg0).trans (after_arg0 _), (h c main_arg1).trans (after_arg1 _)⟩)
    (StableHlo.run_hlo defs main line.2 (by decide) (by decide) (by simp [line])
      (by intro _ h; (repeat (cases h with | head => rfl | tail _ h => ?_)); exact nomatch h) m ρ)

/-- The reference runs, its arguments end unchanged and every semaphore counter ends at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).2.2.2.2.2.1, (h c).2.2.2.2.2.2⟩,
      Idealize.ShloMosaic.sem_eq_zero_of_no_sems (by decide) r.2⟩) (run m ρ)

end Cert.ReferenceIdeal.Plain

end
-- ==== Proof.Vq.Nearest.lean ====
/-
  The nearest of finitely many candidates: the first index at which a family of extended reals takes its least value,
  and the two ways the programs compute it — as the least index among those that attain the minimum, and as a fold of
  pairs (value, index).
-/
module

public import Mathlib.Data.EReal.Operations
public import Mathlib.Data.Finset.Fold
public import Mathlib.Data.Finset.Max
public import Mathlib.Data.Fintype.Basic
public import Idealize.ShloMosaic.PureOps.Ideal

@[expose] public section

noncomputable section

namespace Cert.Vq

/-- The least value of a family. -/
def low {n : Nat} (d : Fin n → EReal) : EReal := Finset.univ.fold min ⊤ d

/-- The indices at which a family takes its least value. -/
def argLow {n : Nat} (d : Fin n → EReal) : Finset (Fin n) := Finset.univ.filter fun j => ∀ k, d j ≤ d k

/-- Some place has the least value. -/
theorem argLow_nonempty {n : Nat} [NeZero n] (d : Fin n → EReal) : (argLow d).Nonempty := by
  obtain ⟨j, -, hj⟩ := Finset.exists_min_image Finset.univ d ⟨0, Finset.mem_univ _⟩
  exact ⟨j, by simpa [argLow] using fun k => hj k (Finset.mem_univ _)⟩

/-- The first index at which a family takes its least value. -/
def best {n : Nat} [NeZero n] (d : Fin n → EReal) : Fin n := (argLow d).min' (argLow_nonempty d)

section

variable {n : Nat} [NeZero n] (d : Fin n → EReal)

/-- The value at the first least index is below every value. -/
theorem best_le (k : Fin n) : d (best d) ≤ d k := by
  have h := Finset.min'_mem _ (argLow_nonempty d)
  exact (Finset.mem_filter.mp h).2 k

/-- Every index with a least value is not before the first. -/
theorem best_first (j : Fin n) (hj : ∀ k, d j ≤ d k) : best d ≤ j :=
  Finset.min'_le _ _ (Finset.mem_filter.mpr ⟨Finset.mem_univ _, hj⟩)

/-- An index that beats every other in value, or ties and is not later, is the first least index. -/
theorem eq_best (j : Fin n) (hj : ∀ k, d j < d k ∨ (d j = d k ∧ j ≤ k)) : j = best d := by
  have hle : ∀ k, d j ≤ d k := fun k => (hj k).elim le_of_lt fun h => le_of_eq h.1
  refine le_antisymm ?_ (best_first d j hle)
  rcases hj (best d) with h | h
  · exact absurd h (not_lt.mpr (best_le d j))
  · exact h.2

/-- The least value is the value at the first least index. -/
theorem low_eq : low d = d (best d) := by
  refine le_antisymm ?_ ?_
  · exact (Finset.fold_min_le _).mpr (Or.inr ⟨best d, Finset.mem_univ _, le_rfl⟩)
  · exact (Finset.le_fold_min _).mpr ⟨le_top, fun k _ => best_le d k⟩

/-- An index attains the least value exactly if its value is below every value. -/
theorem eq_low_iff (j : Fin n) : d j = low d ↔ ∀ k, d j ≤ d k := by
  rw [low_eq]
  refine ⟨fun h k => h ▸ best_le d k, fun h => le_antisymm (h _) (best_le d j)⟩

/-- The least of the indices (as numbers) among those that attain the minimum, every other index counted as `c`, a
    number above them all: it is the first least index. -/
theorem low_index (c : EReal) (hc : ∀ j : Fin n, (((j : ℕ) : ℝ) : EReal) ≤ c) :
    low (fun j : Fin n => if d j = low d then (((j : ℕ) : ℝ) : EReal) else c) = (((best d : ℕ) : ℝ) : EReal) := by
  refine le_antisymm ?_ ?_
  · refine (Finset.fold_min_le _).mpr (Or.inr ⟨best d, Finset.mem_univ _, ?_⟩)
    rw [if_pos ((eq_low_iff d _).mpr (best_le d))]
  · refine (Finset.le_fold_min _).mpr ⟨le_top, fun k _ => ?_⟩
    split
    · next h =>
      have := best_first d k ((eq_low_iff d k).mp h)
      exact_mod_cast this
    · exact hc _

end

/-! ## The fold of pairs -/

/-- One step of the fold: the better of two pairs, the earlier of equally good ones, as two answers. -/
structure Picks {β : Type} (f : EReal × β → EReal × β → EReal × β) (w : Fin 1024 → β) : Prop where
  /-- The step keeps a pair that beats the next one. -/
  keep : ∀ (a b : EReal) (i j : Fin 1024), (a < b ∨ (a = b ∧ i ≤ j)) → f (a, w i) (b, w j) = (a, w i)
  /-- The step takes the next pair otherwise. -/
  take : ∀ (a b : EReal) (i j : Fin 1024), ¬ (a < b ∨ (a = b ∧ i ≤ j)) → f (a, w i) (b, w j) = (b, w j)

/-- What the fold of a list of pairs ends at: one of the pairs it met (or the first), not worse than any of them. -/
theorem Picks.foldl {β : Type} {f : EReal × β → EReal × β → EReal × β} {w : Fin 1024 → β} (hf : Picks f w)
    (d : Fin 1024 → EReal) (l : List (Fin 1024)) (a : EReal) (i : Fin 1024) :
    ∃ (b : EReal) (j : Fin 1024), (l.map fun k => (d k, w k)).foldl f (a, w i) = (b, w j)
      ∧ ((b = a ∧ j = i) ∨ b = d j) ∧ (b < a ∨ (b = a ∧ j ≤ i)) ∧ ∀ k ∈ l, b < d k ∨ (b = d k ∧ j ≤ k) := by
  induction l generalizing a i with
  | nil => exact ⟨a, i, rfl, .inl ⟨rfl, rfl⟩, .inr ⟨rfl, le_rfl⟩, by simp⟩
  | cons k l ih =>
    by_cases h : a < d k ∨ (a = d k ∧ i ≤ k)
    · obtain ⟨b, j, h1, h2, h3, h4⟩ := ih a i
      refine ⟨b, j, ?_, h2, h3, ?_⟩
      · rw [List.map_cons, List.foldl_cons, hf.keep _ _ _ _ h]; exact h1
      · intro x hx
        rcases List.mem_cons.mp hx with rfl | hx
        · rcases h3 with h3 | ⟨h3, h3'⟩ <;> rcases h with h | ⟨h, h'⟩
          · exact .inl (h3.trans h)
          · exact .inl (h ▸ h3)
          · exact .inl (h3 ▸ h)
          · exact .inr ⟨h3.trans h, h3'.trans h'⟩
        · exact h4 x hx
    · obtain ⟨b, j, h1, h2, h3, h4⟩ := ih (d k) k
      refine ⟨b, j, ?_, ?_, ?_, ?_⟩
      · rw [List.map_cons, List.foldl_cons, hf.take _ _ _ _ h]; exact h1
      · rcases h2 with ⟨rfl, rfl⟩ | h2
        · exact .inr rfl
        · exact .inr h2
      · push Not at h
        obtain ⟨ha, hb⟩ := h
        rcases h3 with h3 | ⟨h3, h3'⟩
        · exact .inl (lt_of_lt_of_le h3 ha)
        · rcases lt_or_eq_of_le ha with ha' | ha'
          · exact .inl (h3 ▸ ha')
          · exact .inr ⟨h3.trans ha', h3'.trans (le_of_lt (hb ha'.symm))⟩
      · intro x hx
        rcases List.mem_cons.mp hx with rfl | hx
        · exact h3
        · exact h4 x hx

/-- A fold that starts at (⊤, the first index) and meets every index ends at the index of the nearest. -/
theorem Picks.foldl_all {β : Type} {f : EReal × β → EReal × β → EReal × β} {w : Fin 1024 → β} (hf : Picks f w)
    (d : Fin 1024 → EReal) (l : List (Fin 1024)) (hl : ∀ k, k ∈ l) :
    ((l.map fun k => (d k, w k)).foldl f (⊤, w 0)).2 = w (best d) := by
  obtain ⟨b, j, h1, h2, -, h4⟩ := hf.foldl d l ⊤ 0
  rw [h1]
  suffices j = best d by rw [this]
  have hb : b = d j := by
    rcases h2 with ⟨rfl, rfl⟩ | h2
    · rcases h4 0 (hl 0) with h | h
      · exact absurd h not_top_lt
      · exact h.1
    · exact h2
  exact eq_best d j fun k => hb ▸ h4 k (hl k)

open Idealize.ShloMosaic

/-- The index `i` as a 32-bit word. -/
abbrev word (i : Fin 1024) : BitVec 32 := BitVec.ofNat 32 i

/-- The word of a row number, read unsigned, is the number. -/
theorem word_toNat (i : Fin 1024) : (word i).toNat = i := by
  have := i.isLt
  rw [BitVec.toNat_ofNat]; omega

/-- The word of a row number, read signed, is the number. -/
theorem word_toInt (i : Fin 1024) : (word i).toInt = (i : ℕ) := by
  have := i.isLt
  rw [BitVec.toInt_eq_toNat_cond, word_toNat]; split <;> omega

/-- Different row numbers have different words. -/
theorem word_inj (i j : Fin 1024) : word i = word j ↔ i = j := by
  refine ⟨fun h => Fin.ext ?_, fun h => h ▸ rfl⟩
  rw [← word_toNat i, ← word_toNat j, h]

/-- The number `i`, converted to an integer, is the word of `i`. -/
theorem fptosi_index (i : Fin 1024) : Ideal.fptosi 32 (((i : ℕ) : ℝ) : EReal) = word i := by
  have := i.isLt
  unfold Ideal.fptosi
  rw [Ideal.toIntClamped_coe, if_pos (by positivity)]
  rw [Int.floor_natCast, min_eq_right (by norm_num; omega), max_eq_right (by norm_num)]
  exact BitVec.ofInt_natCast _ _

end Cert.Vq

end
-- ==== Proof.Vq.Distance.lean ====
/-
  The squared distance of a row to a codebook row, in the two forms the programs write it, and that they agree on real
  entries.
-/
module

public import Mathlib.Data.EReal.Operations
public import Mathlib.Algebra.BigOperators.Ring.Finset
public import Mathlib.Tactic.Ring
public import Idealize.ShloMosaic.PureOps.Ideal

@[expose] public section

noncomputable section

namespace Cert.Vq

/-- The reference's form: the row's square plus the codebook row's square, less twice the scalar product. -/
def plainDist (r c : Fin 64 → EReal) : EReal := ∑ k, r k * r k + ∑ k, c k * c k - 2 * ∑ k, r k * c k

/-- The kernel's form: the two squares the other way about, and the product with minus twice the codebook row. -/
def tileDist (r c : Fin 64 → EReal) : EReal := ∑ k, c k * c k + ∑ k, r k * r k + ∑ k, -2 * c k * r k

/-- An extended real that is a real number. -/
def IsReal (x : EReal) : Prop := ∃ a : ℝ, x = a

/-- The sum of real numbers, taken in the extended reals, is their real sum. -/
theorem coe_sum {n : Nat} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- On real entries the two forms are one number. -/
theorem tileDist_eq (r c : Fin 64 → EReal) (hr : ∀ k, IsReal (r k)) (hc : ∀ k, IsReal (c k)) :
    tileDist r c = plainDist r c := by
  choose a ha using hr
  choose b hb using hc
  obtain rfl : r = fun k => ((a k : ℝ) : EReal) := funext ha
  obtain rfl : c = fun k => ((b k : ℝ) : EReal) := funext hb
  unfold tileDist plainDist
  have h2 : (2 : EReal) = ((2 : ℝ) : EReal) := rfl
  rw [h2]
  simp only [← EReal.coe_neg, ← EReal.coe_mul, coe_sum, ← EReal.coe_add, ← EReal.coe_sub]
  congr 1
  have : ∑ k, -2 * b k * a k = -(2 * ∑ k, a k * b k) := by
    rw [Finset.mul_sum, ← Finset.sum_neg_distrib]
    exact Finset.sum_congr rfl fun k _ => by ring
  rw [this]
  ring

open Idealize.ShloMosaic

/-- The word of 2. -/
theorem lit_two : Ideal.ofBits .f32 0x40000000#32 = 2 := by
  simp [Ideal.ofBits, Ideal.ieee, -EReal.coe_mul]; norm_num; rfl

/-- The word of −2. -/
theorem lit_neg_two : Ideal.ofBits .f32 0xC0000000#32 = -2 := by
  simp [Ideal.ofBits, Ideal.ieee, -EReal.coe_mul]; norm_num; rfl

/-- The word of 1024. -/
theorem lit_1024 : Ideal.ofBits .f32 0x44800000#32 = ((1024 : ℝ) : EReal) := by
  simp [Ideal.ofBits, Ideal.ieee, -EReal.coe_mul]; norm_num

/-- The word of +∞. -/
theorem lit_top : Ideal.ofBits .f32 0x7F800000#32 = ⊤ := by
  simp [Ideal.ofBits, Ideal.ieee]

end Cert.Vq

end
-- ==== Proof.Vq.Tile.lean ====
/-
  What one block of the kernel computes: from 2048 rows and the codebook, each row's nearest codebook row, its one-hot
  row, the straight-through row, the block's sum of squared differences and its column sums.
-/
module

public import proofs.«01_k».proof.Proof.Gen.KernelIdeal.Skeleton
public import proofs.«01_k».proof.Proof.Vq.Nearest
public import proofs.«01_k».proof.Proof.Vq.Distance
public import Idealize.ShloMosaic.Lib.Pointwise

@[expose] public section

set_option maxRecDepth 16384

noncomputable section

namespace Cert.KernelIdeal.Tile

open Idealize.ShloMosaic Cert.Vq
open Cert.KernelIdeal Cert.KernelIdeal.Gen

variable (x : FVec Ideal S2048x64 .f32) (e : FVec Ideal S1024x64 .f32)

/-- The distances of the block: codebook rows down, block rows across. -/
def cost : FVec Ideal S1024x2048 .f32 :=
  addf (addf
      (broadcastTo S1024x2048 (shapeCast S1024x1 (multiReduction (F := Ideal) .add [1] S1024 (mulf e e) 0x00000000#32
        reduces_S1024x64_S1024 (.inl rfl) rfl) shapeCasts_S1024_S1024x1) broadcasts_S1024x1_S1024x2048)
      (broadcastTo S1024x2048 (shapeCast S1x2048 (multiReduction (F := Ideal) .add [1] S2048 (mulf x x) 0x00000000#32
        reduces_S2048x64_S2048 (.inl rfl) rfl) shapeCasts_S2048_S1x2048) broadcasts_S1x2048_S1024x2048))
    (matmul dot_S1024x64_S2048x64_S1024x2048_1_1_0_0_n_n none
      (mulf (broadcast S1024x64 (Scalar.ofBits .f32 0xC0000000#32)) e) x (constant S1024x2048 .f32 0x00000000#32))

/-- The least value of every column. -/
def least (d : FVec Ideal S1024x2048 .f32) : FVec Ideal S2048 .f32 :=
  multiReduction (F := Ideal) .minimumf [0] S2048 d 0x7F800000#32 reduces_S1024x2048_S2048 (.inl rfl) rfl

/-- In every column, the row's number where the entry equals the column's given value, 1024 elsewhere. -/
def mark (d : FVec Ideal S1024x2048 .f32) (v : FVec Ideal S2048 .f32) : FVec Ideal S1024x2048 .f32 :=
  select (cmpf .oeq d (broadcastTo S1024x2048 (shapeCast S1x2048 v shapeCasts_S2048_S1x2048)
      broadcasts_S1x2048_S1024x2048))
    (sitofp .f32 (iota .tc S1024x2048 32 [0] iota_S1024x2048_d0_w32))
    (broadcast S1024x2048 (Scalar.ofBits .f32 0x44800000#32))

/-- The block of rows is read as it is. -/
theorem pay5_eq : k0_pay5 (F := Ideal) x = x := by
  funext i
  rw [eq_ix2 i]
  pointwise [k0_pay5]

/-- The row of nearest numbers is the least marked number of every column, the marks being at the least distances. -/
theorem pay6_eq : k0_pay6 (F := Ideal) x e
    = shapeCast S1x2048 (least (mark (cost (k0_pay5 (F := Ideal) x) e) (least (cost (k0_pay5 (F := Ideal) x) e))))
        shapeCasts_S2048_S1x2048 := rfl

/-- The distance of a block row to a codebook row, in the kernel's form. -/
theorem cost_apply (j : Fin 1024) (r : Fin 2048) :
    cost x e (ix2 j r) = tileDist (fun k => x (ix2 r k)) (fun k => e (ix2 j k)) := by
  pointwise [cost]
  rw [lit_neg_two]; rfl

/-- The least value of a column, as a minimum over the column. -/
theorem least_apply (d : FVec Ideal S1024x2048 .f32) (r : Fin 2048) :
    least d (ix1 r) = low fun j => d (ix2 j r) := by
  pointwise [least]
  rw [lit_top]; rfl

/-- The mark of an entry: its row number where it equals the column's given value, 1024 elsewhere. -/
theorem mark_apply (d : FVec Ideal S1024x2048 .f32) (v : FVec Ideal S2048 .f32) (j : Fin 1024) (r : Fin 2048) :
    mark d v (ix2 j r) = if d (ix2 j r) = v (ix1 r) then (((j : ℕ) : ℝ) : EReal) else ((1024 : ℝ) : EReal) := by
  have h : FloatOps.sitofp (F := Ideal) FTy.f32 (BitVec.ofNat 32 j) = (((j : ℕ) : ℝ) : EReal) := by
    show (((word j).toInt : ℝ) : EReal) = _
    rw [word_toInt]; simp
  pointwise [mark]
  rw [lit_1024, h]

/-- The codebook row nearest to block row `r`. -/
def near (r : Fin 2048) : Fin 1024 := best fun j => tileDist (fun k => x (ix2 r k)) (fun k => e (ix2 j k))

/-- The kernel's row of indices, as numbers: the first index at the least distance. -/
theorem pay6_apply (r : Fin 2048) : k0_pay6 (F := Ideal) x e (ix2 (0 : Fin 1) r) = (((near x e r : ℕ) : ℝ) : EReal) := by
  rw [pay6_eq, pay5_eq]
  have h : ∀ v : FVec Ideal S2048 .f32, shapeCast S1x2048 v shapeCasts_S2048_S1x2048 (ix2 (0 : Fin 1) r) = v (ix1 r) := by
    intro v; pointwise
  rw [h, least_apply]
  simp only [mark_apply, least_apply, cost_apply]
  refine low_index (fun j => tileDist (fun k => x (ix2 r k)) (fun k => e (ix2 j k))) _ fun j => ?_
  have := j.isLt
  exact_mod_cast this.le

/-- The stored indices. -/
theorem pay7_apply (r : Fin 2048) : k0_pay7 (F := Ideal) x e (ix3 (0 : Fin 1) (0 : Fin 1) r) = word (near x e r) := by
  have h : k0_pay7 (F := Ideal) x e (ix3 (0 : Fin 1) (0 : Fin 1) r)
      = FloatOps.fptosi (F := Ideal) 32 (k0_pay6 (F := Ideal) x e (ix2 (0 : Fin 1) r)) := by
    generalize hp : k0_pay6 (F := Ideal) x e = p
    unfold k0_pay7
    rw [hp]
    pointwise
  rw [h, pay6_apply]
  exact fptosi_index _

/-- The one-hot matrix of a block from its row of index numbers. -/
def hot (p : FVec Ideal S1x2048 .f32) : FVec Ideal S2048x1024 .f32 :=
  sitofp .f32 (extui 32 (cmpf .oeq (sitofp .f32 (iota .tc S2048x1024 32 [1] iota_S2048x1024_d1_w32))
    (broadcastTo S2048x1024 (shapeCast S2048x1 p shapeCasts_S1x2048_S2048x1) broadcasts_S2048x1_S2048x1024)) natLt_1_32)

/-- The one-hot rows are made from the row of nearest numbers. -/
theorem pay8_eq : k0_pay8 (F := Ideal) x e = hot (k0_pay6 (F := Ideal) x e) := rfl

/-- A one-hot row has its one in the column of the row's number. -/
theorem hot_apply (p : FVec Ideal S1x2048 .f32) (r : Fin 2048) (j i : Fin 1024)
    (hp : p (ix2 (0 : Fin 1) r) = (((i : ℕ) : ℝ) : EReal)) : hot p (ix2 r j) = if j = i then 1 else 0 := by
  have h : FloatOps.sitofp (F := Ideal) FTy.f32 (BitVec.ofNat 32 j) = (((j : ℕ) : ℝ) : EReal) := by
    show (((word j).toInt : ℝ) : EReal) = _
    rw [word_toInt]; simp
  have hh : hot p (ix2 r j) = FloatOps.sitofp (F := Ideal) FTy.f32 (BitVec.setWidth 32 (BitVec.ofBool
      (decide (FloatOps.sitofp (F := Ideal) FTy.f32 (BitVec.ofNat 32 j) = p (ix2 (0 : Fin 1) r))))) := by
    pointwise [hot]
  rw [hh, h, hp]
  by_cases hij : j = i
  · subst hij
    rw [if_pos rfl, decide_eq_true rfl]
    show (((BitVec.setWidth 32 (BitVec.ofBool true)).toInt : ℝ) : EReal) = 1
    simp
  · have hne : ¬ (((j : ℕ) : ℝ) : EReal) = (((i : ℕ) : ℝ) : EReal) := by
      intro hc
      exact hij (Fin.ext (by exact_mod_cast hc))
    rw [if_neg hij, decide_eq_false hne]
    show (((BitVec.setWidth 32 (BitVec.ofBool false)).toInt : ℝ) : EReal) = 0
    simp

/-- The block's one-hot matrix. -/
theorem pay8_apply (r : Fin 2048) (j : Fin 1024) :
    k0_pay8 (F := Ideal) x e (ix2 r j) = if j = near x e r then 1 else 0 := by
  rw [pay8_eq]
  exact hot_apply _ r j _ (pay6_apply x e r)

/-- The stored one-hot matrix. -/
theorem pay9_apply (r : Fin 2048) (j : Fin 1024) :
    k0_pay9 (F := Ideal) x e (ix3 (0 : Fin 1) r j) = if j = near x e r then 1 else 0 := by
  rw [← pay8_apply]
  generalize hp : k0_pay8 (F := Ideal) x e = p
  unfold k0_pay9
  rw [hp]
  pointwise

variable (y : FVec Ideal S2048x1024 .f32)

/-- The difference of a row of the product with the codebook and the block's row. -/
theorem pay1_apply (r : Fin 2048) (k : Fin 64) :
    k0_pay1 (F := Ideal) x e y (ix2 r k) = ∑ j : Fin 1024, y (ix2 r j) * e (ix2 j k) - x (ix2 r k) := by
  pointwise [k0_pay1]

/-- The straight-through row. -/
theorem pay2_apply (r : Fin 2048) (k : Fin 64) :
    k0_pay2 (F := Ideal) x e y (ix2 r k) = x (ix2 r k) + k0_pay1 (F := Ideal) x e y (ix2 r k) := by
  pointwise [k0_pay2]

/-- The block's sum of squared differences. -/
theorem pay3_apply : k0_pay3 (F := Ideal) x e y (ix3 (0 : Fin 1) (0 : Fin 1) (0 : Fin 1))
    = ∑ r : Fin 2048, ∑ k : Fin 64, k0_pay1 (F := Ideal) x e y (ix2 r k) * k0_pay1 (F := Ideal) x e y (ix2 r k) := by
  pointwise [k0_pay3]

/-- The block's column sums. -/
theorem pay4_apply (j : Fin 1024) :
    k0_pay4 (F := Ideal) y (ix3 (0 : Fin 1) (0 : Fin 1) j) = ∑ r : Fin 2048, y (ix2 r j) := by
  pointwise [k0_pay4]

end Cert.KernelIdeal.Tile

end
-- ==== Proof.Vq.Arrays.lean ====
/-
  The five arrays the kernel leaves, as functions of its two arguments.
-/
module

public import proofs.«01_k».proof.Proof.Gen.KernelIdeal.Frame
public import proofs.«01_k».proof.Proof.Vq.Tile
public import Idealize.ShloMosaic.Lib.Claim
public import Idealize.ShloMosaic.Lib.Pipeline.ValueKit

@[expose] public section

set_option maxRecDepth 16384

noncomputable section

namespace Cert.KernelIdeal.Tile

open Idealize.ShloMosaic Idealize.ShloMosaic.TcCoe Cert.Vq
open Cert.KernelIdeal Cert.KernelIdeal.Gen

variable (z : FVec Ideal S16x64x32x32 .f32) (e : FVec Ideal S1024x64 .f32)

/-- The pixels as rows, as the kernel makes them: pixels in one axis, channels last, images joined. -/
def flat : FVec Ideal S16384x64 .f32 :=
  shapeCast S16384x64 (transpose S16x1024x64 [0, 2, 1] (shapeCast S16x64x1024 z shapeCasts_S16x64x32x32_S16x64x1024)
    transposes_S16x64x1024_S16x1024x64_0_2_1) shapeCasts_S16x1024x64_S16384x64

/-- Row `n` of the rows is pixel `n mod 1024` of image `n / 1024`. -/
theorem flat_apply (n : Fin 16384) (k : Fin 64) :
    flat z (ix2 n k) = z (ix4 (⟨n / 1024, by omega⟩ : Fin 16) k (⟨n / 32 % 32, by omega⟩ : Fin 32)
      (⟨n % 32, by omega⟩ : Fin 32)) := by
  pointwise [flat]
  congr 1
  blk_ext

/-- The number of row `r` of block `t`. -/
def row (t : Fin 8) (r : Fin 2048) : Fin 16384 := ⟨2048 * t + r, by omega⟩

/-- The rows of block `t`. -/
def part (t : Fin 8) : FVec Ideal S2048x64 .f32 := fun i => flat z (ix2 (row t (i 0)) (i 1))

/-- Entry `(r, k)` of block `t` is entry `k` of the row that is number `r` of block `t`. -/
theorem part_apply (t : Fin 8) (r : Fin 2048) (k : Fin 64) : part z t (ix2 r k) = flat z (ix2 (row t r) k) := rfl

/-- Where every window stands at a point of the grid. -/
theorem idx : ∀ t : Fin cfg0.N, win0_0.index t = ![t.val, 0] ∧ win0_1.index t = ![0, 0] ∧ win0_2.index t = ![t.val, 0, 0]
    ∧ win0_3.index t = ![t.val, 0] ∧ win0_4.index t = ![t.val, 0, 0] ∧ win0_5.index t = ![t.val, 0, 0]
    ∧ win0_6.index t = ![t.val, 0, 0] :=
  (by decide +kernel : ∀ t : Fin grid0.N, _)

variable (m : (ℓ : Loc nD τ sig) → Buf (Elt Ideal) ℓ) (c : Dev nD)

/-- The rows array on entry to the launch. -/
theorem entry_rows : V m c main_v2 = flat (m ((c : Thread nD τ).loc main_arg0)) := by
  entry_read
  rfl

/-- The rows that point `t` reads, at an index. -/
theorem block_rows_apply (t : Fin cfg0.N) (r : Fin 2048) (k : Fin 64) :
    iblk m c 0 t (ix2 r k) = part (m ((c : Thread nD τ).loc main_arg0)) t (ix2 r k) := by
  show _ = flat _ (ix2 (row t r) k)
  rw [← entry_rows m c]
  blk_ext [iblk, idx t, row]

/-- The rows that point `t` reads. -/
theorem block_rows (t : Fin cfg0.N) : iblk m c 0 t = part (m ((c : Thread nD τ).loc main_arg0)) t := by
  funext i
  have h := block_rows_apply m c t (i 0) (i 1)
  have hi : i = ix2 (i 0) (i 1) := eq_ix2 (n0 := 2048) (n1 := 64) i
  exact (congrArg (iblk m c 0 t) hi).trans (h.trans (congrArg (part _ t) hi.symm))

/-- The codebook that point `t` reads. -/
theorem block_codes (t : Fin cfg0.N) : iblk m c 1 t = m ((c : Thread nD τ).loc main_arg1) := by
  blk_ext! [iblk, V, idx t]

/-- The one-hot rows of every block. -/
def hots : FVec Ideal S8x2048x1024 .f32 :=
  fun i => k0_pay9 (F := Ideal) (part z (i 0)) e (ix3 0 (i 1) (i 2))

/-- The straight-through rows. -/
def throughs : FVec Ideal S16384x64 .f32 :=
  fun i => k0_pay2 (F := Ideal) (part z (⟨(i 0).val / 2048, by have := (i 0).isLt; simp at this; omega⟩ : Fin 8)) e
    (k0_pay8 (F := Ideal) (part z (⟨(i 0).val / 2048, by have := (i 0).isLt; simp at this; omega⟩ : Fin 8)) e)
    (ix2 (⟨(i 0).val % 2048, by omega⟩ : Fin 2048) (i 1))

/-- The nearest codebook rows of every block. -/
def nears : IVec S8x1x2048 32 :=
  fun i => k0_pay7 (F := Ideal) (part z (i 0)) e (ix3 0 0 (i 2))

/-- The sum of squared differences of every block. -/
def squares : FVec Ideal S8x1x1 .f32 :=
  fun i => k0_pay3 (F := Ideal) (part z (i 0)) e (k0_pay8 (F := Ideal) (part z (i 0)) e) (ix3 0 0 0)

/-- The column sums of every block. -/
def columns : FVec Ideal S8x1x1024 .f32 :=
  fun i => k0_pay4 (F := Ideal) (k0_pay8 (F := Ideal) (part z (i 0)) e) (ix3 0 0 (i 2))

/-- An entry of block `t`'s one-hot rows is the entry of the whole array at the place where the block stands. -/
theorem hots_at (t : Fin 8) (y : S1x2048x1024.Idx) (i : S8x2048x1024.Idx) (h0 : (i 0).val = t.val)
    (h1 : (i 1).val = (y 1).val) (h2 : (i 2).val = (y 2).val) :
    k0_pay9 (F := Ideal) (part z t) e y = hots z e i := by
  have e0 : i 0 = t := Fin.ext h0
  have e1 : i 1 = y 1 := Fin.ext h1
  have e2 : i 2 = y 2 := Fin.ext h2
  have hy : y = ix3 0 (y 1) (y 2) := by blk_ext
  unfold hots
  rw [e0, e1, e2]
  exact congrArg (k0_pay9 (F := Ideal) (part z t) e) hy

/-- An entry of block `t`'s straight-through rows is the entry of the whole array at the place where the block
    stands. -/
theorem throughs_at (t : Fin 8) (y : S2048x64.Idx) (i : S16384x64.Idx) (h0 : (i 0).val = t.val * 2048 + (y 0).val)
    (h1 : (i 1).val = (y 1).val) :
    k0_pay2 (F := Ideal) (part z t) e (k0_pay8 (F := Ideal) (part z t) e) y = throughs z e i := by
  have hlt : (y 0).val < 2048 := (y 0).isLt
  have e0 : (⟨(i 0).val / 2048, by have := (i 0).isLt; simp at this; omega⟩ : Fin 8) = t := Fin.ext (by simp only; omega)
  have e1 : (⟨(i 0).val % 2048, by omega⟩ : Fin 2048) = y 0 := Fin.ext (by simp only; omega)
  have e2 : i 1 = y 1 := Fin.ext h1
  unfold throughs
  rw [e0, e1, e2, ← eq_ix2 y]

/-- An entry of block `t`'s indices is the entry of the whole array at the place where the block stands. -/
theorem nears_at (t : Fin 8) (y : S1x1x2048.Idx) (i : S8x1x2048.Idx) (h0 : (i 0).val = t.val)
    (h2 : (i 2).val = (y 2).val) : k0_pay7 (F := Ideal) (part z t) e y = nears z e i := by
  have e0 : i 0 = t := Fin.ext h0
  have e2 : i 2 = y 2 := Fin.ext h2
  have hy : y = ix3 0 0 (y 2) := by blk_ext
  unfold nears
  rw [e0, e2]
  exact congrArg (k0_pay7 (F := Ideal) (part z t) e) hy

/-- Block `t`'s sum of squares is entry `t` of the whole array. -/
theorem squares_at (t : Fin 8) (y : S1x1x1.Idx) (i : S8x1x1.Idx) (h0 : (i 0).val = t.val) :
    k0_pay3 (F := Ideal) (part z t) e (k0_pay8 (F := Ideal) (part z t) e) y = squares z e i := by
  have e0 : i 0 = t := Fin.ext h0
  have hy : y = ix3 0 0 0 := by blk_ext
  unfold squares
  rw [e0, ← hy]

/-- A column sum of block `t` is the entry of the whole array at the place where the block stands. -/
theorem columns_at (t : Fin 8) (y : S1x1x1024.Idx) (i : S8x1x1024.Idx) (h0 : (i 0).val = t.val)
    (h2 : (i 2).val = (y 2).val) :
    k0_pay4 (F := Ideal) (k0_pay8 (F := Ideal) (part z t) e) y = columns z e i := by
  have e0 : i 0 = t := Fin.ext h0
  have e2 : i 2 = y 2 := Fin.ext h2
  have hy : y = ix3 0 0 (y 2) := by blk_ext
  unfold columns
  rw [e0, e2]
  exact congrArg (k0_pay4 (F := Ideal) (k0_pay8 (F := Ideal) (part z t) e)) hy

/-- The starting corner of a two-axis block is all zeros. -/
theorem start2 : (![0, 0] : Fin 2 → Nat) = fun _ => 0 := by decide

/-- The rows the body works on are the rows it was given. -/
theorem pay10_eq (x : FVec Ideal S2048x64 .f32) : k0_pay10 (F := Ideal) x e = x := by
  unfold k0_pay10
  rw [View.ld_unit_zero start2, pay5_eq]

/-- The one-hot rows the body works on are those of the rows it was given. -/
theorem pay11_eq (x : FVec Ideal S2048x64 .f32) : k0_pay11 (F := Ideal) x e = k0_pay8 (F := Ideal) x e := by
  unfold k0_pay11
  rw [View.ld_unit_zero start2, View.ld_unit_zero start2]

/-- The launch leaves the one-hot rows in its first output. -/
theorem array_hots : (dats m 0 c).arrAt 2 cfg0.N
    = hots (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [block_rows, block_codes]
  exact hots_at _ _ t y _ (by blk_simp [idx t]; blk_ext) (by blk_simp [idx t]; blk_ext) (by blk_simp [idx t]; blk_ext)

/-- The launch leaves the straight-through rows in its second output. -/
theorem array_throughs : (dats m 0 c).arrAt 3 cfg0.N
    = throughs (m ((c : Thread nD τ).loc main_arg0)) (m ((c : Thread nD τ).loc main_arg1)) := by
  refine (dats m 0 c).arrAt_eq_of_covers 3 _ (by decide +kernel) fun t hf y => ?_
  blk_simp
  rw [after0_3]
  frame_out
  rw [block_rows, block_codes, pay10_eq, pay11_eq]
  exact throughs_at _ _ t y _ (by blk_simp [idx t]; blk_ext) (by blk_simp [idx t]; blk_ext)

/-- The launch leaves the indices in its third output. -/
theorem array_nears : (dats m 0 c).arrAt 4 cfg0.N
    = nears (m ((c : Thread nD τ).loc main_arg0)) (m ((c : Thread nD τ).loc main_arg1)) := by
  refine (dats m 0 c).arrAt_eq_of_covers 4 _ (by decide +kernel) fun t hf y => ?_
  blk_simp
  rw [after0_4]
  frame_out
  rw [block_rows, block_codes]
  exact nears_at _ _ t y _ (by blk_simp [idx t]; blk_ext) (by blk_simp [idx t]; blk_ext)

/-- The launch leaves the blocks' sums of squares in its fourth output. -/
theorem array_squares : (dats m 0 c).arrAt 5 cfg0.N
    = squares (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [block_rows, block_codes, pay10_eq, pay11_eq]
  exact squares_at _ _ t y _ (by blk_simp [idx t]; blk_ext)

/-- The launch leaves the blocks' column sums in its fifth output. -/
theorem array_columns : (dats m 0 c).arrAt 6 cfg0.N
    = columns (m ((c : Thread nD τ).loc main_arg0)) (m ((c : Thread nD τ).loc main_arg1)) := by
  refine (dats m 0 c).arrAt_eq_of_covers 6 _ (by decide +kernel) fun t hf y => ?_
  blk_simp
  rw [after0_6]
  frame_out
  rw [block_rows, block_codes, pay11_eq]
  exact columns_at _ _ t y _ (by blk_simp [idx t]; blk_ext) (by blk_simp [idx t]; blk_ext)

end Cert.KernelIdeal.Tile
-- ==== Proof.Vq.Tail.lean ====
/-
  What the operations after the launch make of the five arrays it leaves, and the kernel's run: it ends with its
  five results at those values and its arguments unchanged.
-/
module

public import proofs.«01_k».proof.Proof.Vq.Arrays
public import Idealize.ShloMosaic.Lib.StableHlo.RunRead
public import Idealize.ShloMosaic.Lib.Tactic.CleanTypes

@[expose] public section

set_option maxRecDepth 16384

noncomputable section

namespace Cert.KernelIdeal.Tile

open Idealize.ShloMosaic Idealize.ShloMosaic.TcCoe Idealize.SL.Sem Cert.Vq
open Cert.KernelIdeal Cert.KernelIdeal.Gen

/-- The loss from the blocks' sums of squares. -/
def lossOf (s : FVec Ideal S8x1x1 .f32) : FVec Ideal S_ .f32 :=
  mulf (Host.divf (Host.reduceAdd s (constant S_ .f32 0x00000000#32) reducesTo_S8x1x1_S_d0_1_2 h_S_)
    (constant S_ .f32 0x49800000#32)) (constant S_ .f32 0x3E800000#32)

/-- The counts from the blocks' column sums. -/
def countsOf (q : FVec Ideal S8x1x1024 .f32) : FVec Ideal S1024 .f32 :=
  Host.reduceAdd (shapeCast S8x1024 q shapeCasts_S8x1x1024_S8x1024) (constant S_ .f32 0x00000000#32)
    reducesTo_S8x1024_S1024_d0 h_S_

/-- The mean of the one-hot rows from the counts. -/
def probsOf (n : FVec Ideal S1024 .f32) : FVec Ideal S1024 .f32 :=
  Host.divf n (broadcastInDim S1024 ![] bcast_S_S1024 (constant S_ .f32 0x46800000#32))

/-- The perplexity from the mean of the one-hot rows. -/
def perplexityOf (p : FVec Ideal S1024 .f32) : FVec Ideal S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- The picture from the straight-through rows. -/
def pictureOf (y : FVec Ideal S16384x64 .f32) : FVec Ideal S16x64x32x32 .f32 :=
  shapeCast S16x64x32x32 (transpose S16x64x1024 [0, 2, 1] (shapeCast S16x1024x64 y shapeCasts_S16384x64_S16x1024x64)
    transposes_S16x1024x64_S16x64x1024_0_2_1) shapeCasts_S16x64x1024_S16x64x32x32

section Reads

variable (V : Valuation τ sig (Elt Ideal))

/-- The first result, from the blocks' sums of squares. -/
theorem after_loss : StableHlo.after (List.flatten [hostOps1]) V (Proc.devRef .tc main_v6)
    = lossOf (V (Proc.devRef .tc main_v3_3)) := by
  simp only [hostOps1, List.flatten_cons, List.flatten_nil, List.append_nil]
  after_reads_simp
  rfl

/-- The second result, from the straight-through rows. -/
theorem after_picture : StableHlo.after (List.flatten [hostOps1]) V (Proc.devRef .tc main_v22)
    = pictureOf (V (Proc.devRef .tc main_v3_1)) := by
  simp only [hostOps1, List.flatten_cons, List.flatten_nil, List.append_nil]
  after_reads_simp
  rfl

/-- The third result, from the blocks' column sums. -/
theorem after_perplexity : StableHlo.after (List.flatten [hostOps1]) V (Proc.devRef .tc main_v17)
    = perplexityOf (probsOf (countsOf (V (Proc.devRef .tc main_v3_4)))) := by
  simp only [hostOps1, List.flatten_cons, List.flatten_nil, List.append_nil]
  after_reads_simp
  rfl

/-- The fourth result, from the one-hot rows. -/
theorem after_hots : StableHlo.after (List.flatten [hostOps1]) V (Proc.devRef .tc main_v18)
    = shapeCast S16384x1024 (V (Proc.devRef .tc main_v3_0) : FVec Ideal S8x2048x1024 .f32)
        shapeCasts_S8x2048x1024_S16384x1024 := by
  simp only [hostOps1, List.flatten_cons, List.flatten_nil, List.append_nil]
  after_reads_simp
  rfl

/-- The fifth result, from the indices. -/
theorem after_nears : StableHlo.after (List.flatten [hostOps1]) V (Proc.devRef .tc main_v19)
    = shapeCast S16384 (V (Proc.devRef .tc main_v3_2) : IVec S8x1x2048 32) shapeCasts_S8x1x2048_S16384 := by
  simp only [hostOps1, List.flatten_cons, List.flatten_nil, List.append_nil]
  after_reads_simp
  rfl

end Reads

variable (m : (ℓ : Loc nD τ sig) → Buf (Elt Ideal) ℓ) (ρ : Dev nD → PrngReg)

/-- What the operations after the launch find in window `w`'s array: what the launch left there. -/
theorem found (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide) c _ _ w

/-- The kernel runs; it ends with its results at these values and its arguments unchanged. -/
theorem run : θ_run defs (onTc (τ := τ) (main (F := Ideal))) ⟨m, fun _ => 0, ρ⟩ (fun r => ∀ c : Dev nD,
      r.2.mem ((c.tc : Thread nD τ).loc main_v6)
        = lossOf (squares (m ((c.tc : Thread nD τ).loc main_arg0)) (m ((c.tc : Thread nD τ).loc main_arg1)))
      ∧ r.2.mem ((c.tc : Thread nD τ).loc main_v22)
        = pictureOf (throughs (m ((c.tc : Thread nD τ).loc main_arg0)) (m ((c.tc : Thread nD τ).loc main_arg1)))
      ∧ r.2.mem ((c.tc : Thread nD τ).loc main_v17)
        = perplexityOf (probsOf (countsOf
            (columns (m ((c.tc : Thread nD τ).loc main_arg0)) (m ((c.tc : Thread nD τ).loc main_arg1)))))
      ∧ r.2.mem ((c.tc : Thread nD τ).loc main_v18)
        = shapeCast S16384x1024
            (hots (m ((c.tc : Thread nD τ).loc main_arg0)) (m ((c.tc : Thread nD τ).loc main_arg1)))
            shapeCasts_S8x2048x1024_S16384x1024
      ∧ r.2.mem ((c.tc : Thread nD τ).loc main_v19)
        = shapeCast S16384 (nears (m ((c.tc : Thread nD τ).loc main_arg0)) (m ((c.tc : Thread nD τ).loc main_arg1)))
            shapeCasts_S8x1x2048_S16384
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨h, ha⟩ := h
  have h := h c
  refine ⟨?_, ?_, ?_, ?_, ?_, (ha c).1, (ha c).2⟩
  · exact (h.2 main_v6 (Pipeline.mem_restRefs_of main_v6 (by decide) (by decide))).trans
      ((after_loss _).trans (congrArg lossOf ((found m c 5).trans (array_squares m c))))
  · exact (h.2 main_v22 (Pipeline.mem_restRefs_of main_v22 (by decide) (by decide))).trans
      ((after_picture _).trans (congrArg pictureOf ((found m c 3).trans (array_throughs m c))))
  · exact (h.2 main_v17 (Pipeline.mem_restRefs_of main_v17 (by decide) (by decide))).trans
      ((after_perplexity _).trans (congrArg (fun q => perplexityOf (probsOf (countsOf q)))
        ((found m c 6).trans (array_columns m c))))
  · exact (h.2 main_v18 (Pipeline.mem_restRefs_of main_v18 (by decide) (by decide))).trans
      ((after_hots _).trans (congrArg (fun q => shapeCast S16384x1024 q shapeCasts_S8x2048x1024_S16384x1024)
        ((found m c 2).trans (array_hots m c))))
  · exact (h.2 main_v19 (Pipeline.mem_restRefs_of main_v19 (by decide) (by decide))).trans
      ((after_nears _).trans (congrArg (fun q => shapeCast S16384 q shapeCasts_S8x1x2048_S16384)
        ((found m c 4).trans (array_nears m c))))

end Cert.KernelIdeal.Tile
-- ==== Proof.Vq.RefIndex.lean ====
/-
  The reference's arg-min, read: the number it stores for a row is the first index at which the row of distances takes
  its least value.
-/
module

public import proofs.«01_k».proof.Proof.Vq.RefRun
public import proofs.«01_k».proof.Proof.Vq.Nearest
public import Idealize.ShloMosaic.PureOps.Ideal.Laws
public import Idealize.ShloMosaic.Lib.Pointwise

@[expose] public section

set_option maxRecDepth 16384

noncomputable section

namespace Cert.ReferenceIdeal.Plain

open Idealize.ShloMosaic Cert.Vq
open Cert.ReferenceIdeal Cert.ReferenceIdeal.Facts Cert.ReferenceIdeal.Facts₀

/-- Signed comparison of two row numbers stored as words is comparison of the numbers. -/
theorem word_slt (i j : Fin 1024) : IntOp.cmpi .slt (word i) (word j) = BitVec.ofBool (decide (i < j)) := by
  show BitVec.ofBool (decide _) = _
  congr 1
  rw [decide_eq_decide, word_toInt, word_toInt]
  simp

/-- One step of the arg-min keeps the better of two pairs. -/
theorem picks : Picks (reducer_argmin_f32_i32 (F := Ideal)) word where
  keep a b i j h := by
    unfold reducer_argmin_f32_i32
    simp only [Ideal.cmpf_def, Ideal.cmp, word_slt]
    rcases h with h | ⟨rfl, h⟩
    · simp [h, h.ne, IntOp.ori, IntOp.andi, Scalar.select]
    · rcases lt_or_eq_of_le h with h | rfl
      · simp [h, IntOp.ori, IntOp.andi, Scalar.select]
      · simp [IntOp.ori, IntOp.andi, Scalar.select]
  take a b i j h := by
    unfold reducer_argmin_f32_i32
    simp only [Ideal.cmpf_def, Ideal.cmp, word_slt]
    push Not at h
    obtain ⟨h1, h2⟩ := h
    have h3 : ¬ a < b := not_lt.mpr h1
    by_cases hab : a = b
    · have h4 : ¬ i < j := not_lt.mpr (le_of_lt (h2 hab))
      simp [h3, h4, IntOp.ori, IntOp.andi, Scalar.select]
    · simp [h3, hab, IntOp.ori, IntOp.andi, Scalar.select]

/-- What an arg-reduction along the rows of a matrix folds over, for one row: the row's pairs, in some order. -/
theorem fiber_row {R N : Nat} {β : Type} (x : (⟨2, ![R, N]⟩ : Shape).Idx → EReal) (y : (⟨2, ![R, N]⟩ : Shape).Idx → β)
    (w : Fin N → β) (hy : ∀ (a : Fin R) (k : Fin N), y (ix2 a k) = w k)
    (h : (⟨2, ![R, N]⟩ : Shape).ReducesTo [1] ⟨1, ![R]⟩) (n : Fin R) :
    ∃ l : List (Fin N), (∀ k, k ∈ l) ∧ Host.argReduceFiber x y h (ix1 n) = l.map fun k => (x (ix2 n k), w k) := by
  let col : Fin (⟨2, ![R, N]⟩ : Shape).numel → Fin N := fun i => (⟨2, ![R, N]⟩ : Shape).rowMajor.symm i 1
  refine ⟨((List.finRange (⟨2, ![R, N]⟩ : Shape).numel).filter fun i =>
      h.drop ((⟨2, ![R, N]⟩ : Shape).rowMajor.symm i) = ix1 n).map col, fun k => ?_, ?_⟩
  · refine List.mem_map.mpr ⟨(⟨2, ![R, N]⟩ : Shape).rowMajor (ix2 n k), List.mem_filter.mpr ⟨List.mem_finRange _, ?_⟩, ?_⟩
    · refine decide_eq_true ?_
      rw [Equiv.symm_apply_apply]
      funext a
      obtain rfl : a = 0 := Subsingleton.elim _ _
      exact Fin.ext (Shape.ReducesTo.drop_apply_val h (ix2 n k) 0)
    · show (⟨2, ![R, N]⟩ : Shape).rowMajor.symm _ 1 = k
      rw [Equiv.symm_apply_apply]; rfl
  · rw [List.map_map]
    unfold Host.argReduceFiber
    refine List.map_congr_left fun i hi => ?_
    have hd := of_decide_eq_true (List.mem_filter.mp hi).2
    have hc : col i = (⟨2, ![R, N]⟩ : Shape).rowMajor.symm i 1 := rfl
    rw [Function.comp_apply, hc]
    generalize (⟨2, ![R, N]⟩ : Shape).rowMajor.symm i = q at hd ⊢
    have h0 : q 0 = n := by
      have h1 := congrArg (fun f : (⟨1, ![R]⟩ : Shape).Idx => (f 0 : Nat)) hd
      have hv : (h.drop q 0 : Nat) = q 0 := Shape.ReducesTo.drop_apply_val h q 0
      exact Fin.ext (hv.symm.trans h1)
    have hq : q = ix2 n (q 1) := by
      rw [← h0]; exact (ix2_eta q).symm
    refine Prod.ext (congrArg x hq) ?_
    exact (congrArg y hq).trans (hy _ _)

/-- The arg-min along the rows of a matrix with 1024 columns: the first column at the least value of the row. -/
theorem argmin_row {R : Nat} (x : FVec Ideal (⟨2, ![R, 1024]⟩ : Shape) .f32) (y : IVec (⟨2, ![R, 1024]⟩ : Shape) 32)
    (hy : ∀ (a : Fin R) (k : Fin 1024), y (ix2 a k) = word k) (a : FVec Ideal S_ .f32) (ha : ∀ i, a i = ⊤)
    (b : IVec S_ 32) (hb : ∀ i, b i = word 0)
    (h : (⟨2, ![R, 1024]⟩ : Shape).ReducesTo [1] ⟨1, ![R]⟩) (hu : 0 < S_.numel) (n : Fin R) :
    (Host.argReduce reducer_argmin_f32_i32 x y a b h hu (ix1 n)).2 = word (best fun j => x (ix2 n j)) := by
  obtain ⟨l, hl, he⟩ := fiber_row x y word hy h n
  rw [Ideal.argReduce_eq_reduce2, Host.reduce2_eq_foldl_fiber, he, ha, hb]
  exact picks.foldl_all (fun j => x (ix2 n j)) l hl

/-- The arg-min operation of the reference, of any array of distances. -/
theorem index_of (x : FVec Ideal S16384x1024 .f32) (n : Fin 16384) :
    (Host.argReduce reducer_argmin_f32_i32 x (iotaInDim S16384x1024 32 1) (constant S_ .f32 0x7F800000#32)
      (constantI S_ 32 0#32) reducesTo_S16384x1024_S16384_d1 h_S_ (ix1 n)).2 = word (best fun j => x (ix2 n j)) := by
  have h1 : ∀ (a : Fin 16384) (k : Fin 1024), iotaInDim S16384x1024 32 1 (ix2 a k) = word k := fun a k => rfl
  have h2 : ∀ i, constant (F := Ideal) S_ .f32 0x7F800000#32 i = ⊤ := fun i => by
    show Ideal.ofBits .f32 0x7F800000#32 = ⊤
    simp [Ideal.ofBits, Ideal.ieee]
  have h3 : ∀ i, constantI S_ 32 0#32 i = word 0 := fun i => rfl
  exact argmin_row (R := 16384) x (iotaInDim S16384x1024 32 1) h1 (constant S_ .f32 0x7F800000#32) h2
    (constantI S_ 32 0#32) h3 reducesTo_S16384x1024_S16384_d1 h_S_ n

variable (z : FVec Ideal S16x64x32x32 .f32) (e : FVec Ideal S1024x64 .f32)

/-- The reference's index of a row: the number of the first codebook row at the least distance. -/
theorem index_apply (n : Fin 16384) : index z e (ix1 n) = word (best fun j => dist z e (ix2 n j)) := by
  have h : index z e = fun j =>  (Host.argReduce reducer_argmin_f32_i32 (dist z e) (iotaInDim S16384x1024 32 1)
      (constant S_ .f32 0x7F800000#32) (constantI S_ 32 0#32) reducesTo_S16384x1024_S16384_d1 h_S_ j).2 := by
    delta index; rfl
  exact (congrFun h (ix1 n)).trans (index_of (dist z e) n)

end Cert.ReferenceIdeal.Plain
end
-- ==== Proof.Vq.RefValue.lean ====
/-
  The reference's arrays read at an index: the distances, the one-hot matrix, the picked rows, and the five results.
-/
module

public import proofs.«01_k».proof.Proof.Vq.RefIndex
public import proofs.«01_k».proof.Proof.Vq.Distance

@[expose] public section

set_option maxRecDepth 16384

noncomputable section

namespace Cert.ReferenceIdeal.Plain

open Idealize.ShloMosaic Cert.Vq
open Cert.ReferenceIdeal

variable (z : FVec Ideal S16x64x32x32 .f32) (e : FVec Ideal S1024x64 .f32)

/-- Row `n`, channel `k` of the pixels: picture `n / 1024`, pixel row `n / 32 % 32`, pixel column `n % 32`. -/
theorem rows_apply (n : Fin 16384) (k : Fin 64) : rows z (ix2 n k)
    = z (ix4 ⟨n / 1024, by omega⟩ k ⟨n / 32 % 32, by omega⟩ ⟨n % 32, by omega⟩) := by
  pointwise [rows]

/-- The distance of a row to a codebook row, in the plain form. -/
theorem dist_apply (n : Fin 16384) (j : Fin 1024) :
    dist z e (ix2 n j) = plainDist (fun k => rows z (ix2 n k)) (fun k => e (ix2 j k)) := by
  pointwise [dist, rowSq, codeSq, scores]
  rw [lit_two]; rfl

/-- The codebook row nearest to row `n`. -/
def near (n : Fin 16384) : Fin 1024 := best fun j => plainDist (fun k => rows z (ix2 n k)) (fun k => e (ix2 j k))

/-- The stored index is the number of the nearest codebook row. -/
theorem index_near (n : Fin 16384) : index z e (ix1 n) = word (near z e n) := by
  rw [index_apply]
  unfold near
  simp only [dist_apply]

/-- The one-hot matrix of an array of indices: one where the column is the index. -/
theorem oneHotOf_apply (ix : IVec S16384 32) (n : Fin 16384) (j : Fin 1024) (i : Fin 1024) (h : ix (ix1 n) = word i) :
    oneHotOf ix (ix2 n j) = if j = i then 1 else 0 := by
  have h1 : oneHotOf ix (ix2 n j) = FloatOps.uitofp (F := Ideal) FTy.f32 (IntOp.cmpi .eq (ix (ix1 n)) (word j)) := by
    pointwise [oneHotOf]
  rw [h1, h]
  by_cases hij : j = i
  · subst hij
    rw [if_pos rfl]
    have : IntOp.cmpi .eq (word j) (word j) = 1#1 := by simp [IntOp.cmpi]
    rw [this]
    show (((1#1 : BitVec 1).toNat : ℝ) : EReal) = 1
    simp
  · rw [if_neg hij]
    have : IntOp.cmpi .eq (word i) (word j) = 0#1 := by
      have : word i ≠ word j := fun h => hij ((word_inj _ _).mp h).symm
      simp only [IntOp.cmpi, beq_eq_false_iff_ne.mpr this]; rfl
    rw [this]
    show (((0#1 : BitVec 1).toNat : ℝ) : EReal) = 0
    simp

/-- The one-hot matrix: one at the nearest codebook row. -/
theorem oneHot_apply (n : Fin 16384) (j : Fin 1024) : oneHot z e (ix2 n j) = if j = near z e n then 1 else 0 := by
  rw [oneHot]
  exact oneHotOf_apply _ n j _ (index_near z e n)

/-- A picked row: the codebook row, written as the product with the one-hot matrix. -/
theorem picked_apply (n : Fin 16384) (k : Fin 64) :
    picked z e (ix2 n k) = ∑ j : Fin 1024, (if j = near z e n then 1 else 0) * e (ix2 j k) := by
  have h : picked z e (ix2 n k) = ∑ j : Fin 1024, oneHot z e (ix2 n j) * e (ix2 j k) := by
    pointwise [picked]
  rw [h]
  simp only [oneHot_apply]

/-- The straight-through picture at a pixel. -/
theorem through_apply (b : Fin 16) (k : Fin 64) (h w : Fin 32) : through z e (ix4 b k h w)
    = z (ix4 b k h w) + (picked z e (ix2 ⟨b * 1024 + h * 32 + w, by omega⟩ k) - z (ix4 b k h w)) := by
  pointwise [through, quant]

/-- How often a codebook row is picked: the sum of a column of the one-hot matrix. -/
theorem counts_apply (j : Fin 1024) : counts z e (ix1 j) = ∑ n : Fin 16384, oneHot z e (ix2 n j) := by
  pointwise [counts]

/-- The difference of picture and picked rows at a pixel. -/
theorem diff_apply (b : Fin 16) (k : Fin 64) (h w : Fin 32) : subf (quant z e) z (ix4 b k h w)
    = picked z e (ix2 ⟨b * 1024 + h * 32 + w, by omega⟩ k) - z (ix4 b k h w) := by
  pointwise [quant]

end Cert.ReferenceIdeal.Plain

end
-- ==== Proof.Vq.Equation.lean ====
/-
  On real arguments the kernel's five results are the plain mathematics' five results.
-/
module

public import proofs.«01_k».proof.Proof.Vq.Tail
public import proofs.«01_k».proof.Proof.Vq.RefValue
public import proofs.«01_k».proof.Proof.Gen.Pre_finite
public import Idealize.ShloMosaic.Lib.IdealHost

@[expose] public section

set_option maxRecDepth 16384

noncomputable section

namespace Cert.Vq

open Idealize.ShloMosaic
open Cert.KernelIdeal Cert.KernelIdeal.Gen Cert.KernelIdeal.Tile
open Cert.ReferenceIdeal (Plain.rows Plain.near Plain.oneHot Plain.index Plain.picked Plain.quant Plain.through
  Plain.counts Plain.loss Plain.probs Plain.perplexity)

variable (z : FVec Ideal S16x64x32x32 .f32) (e : FVec Ideal S1024x64 .f32)

/-- The kernel's rows and the reference's rows are the same. -/
theorem flat_eq (n : Fin 16384) (k : Fin 64) : flat z (ix2 n k) = Cert.ReferenceIdeal.Plain.rows z (ix2 n k) := by
  rw [flat_apply, Cert.ReferenceIdeal.Plain.rows_apply]

/-- What it is for the two arguments to hold real numbers only. -/
def AllReal : Prop := (∀ i, IsReal (z i)) ∧ ∀ i, IsReal (e i)

/-- An extended real whose absolute value is below `⊤` is real. -/
theorem real_of_abs (x : EReal) (h : BitVec.ofBool (decide (max x (-x) < ⊤)) = 1#1) : IsReal x := by
  have h : max x (-x) < ⊤ := by
    by_contra hn
    rw [decide_eq_false hn] at h
    exact absurd h (by decide)
  induction x with
  | bot => simp at h
  | coe a => exact ⟨a, rfl⟩
  | top => simp at h

/-- The precondition says that the arguments hold real numbers only. -/
theorem allReal_of_finite
    (h : (Cert.Pre_finite.fn (F := Ideal) z e).1 = (fun _ => 1#1) ∧ (Cert.Pre_finite.fn (F := Ideal) z e).2 = fun _ => 1#1) :
    AllReal z e := by
  refine ⟨fun i => ?_, fun i => ?_⟩
  · have h := congrFun h.1 i
    have h' : BitVec.ofBool (decide (FloatOps.absf (F := Ideal) (z i) < Ideal.ofBits FTy.f32 0x7F800000#32)) = 1#1 := by
      revert h
      pointwise [Cert.Pre_finite.fn]
      exact id
    rw [lit_top] at h'
    exact real_of_abs _ h'
  · have h := congrFun h.2 i
    have h' : BitVec.ofBool (decide (FloatOps.absf (F := Ideal) (e i) < Ideal.ofBits FTy.f32 0x7F800000#32)) = 1#1 := by
      revert h
      pointwise [Cert.Pre_finite.fn]
      exact id
    rw [lit_top] at h'
    exact real_of_abs _ h'

variable {z e}

/-- The nearest codebook row of a row of a block is that of the same row of the picture. -/
theorem near_eq (hr : AllReal z e) (t : Fin 8) (r : Fin 2048) :
    near (part z t) e r = Cert.ReferenceIdeal.Plain.near z e (row t r) := by
  unfold near Cert.ReferenceIdeal.Plain.near
  congr 1
  funext j
  rw [tileDist_eq _ _ (fun k => ?_) (fun k => hr.2 _)]
  · simp only [part_apply, flat_eq]
  · rw [part_apply, flat_apply]
    exact hr.1 _

/-- Every row is a row of a block. -/
theorem row_split (n : Fin 16384) : row (⟨n / 2048, by omega⟩ : Fin 8) (⟨n % 2048, by omega⟩ : Fin 2048) = n := by
  apply Fin.ext
  simp only [row]
  omega

/-- The one-hot rows of a block. -/
theorem hot_eq (hr : AllReal z e) (t : Fin 8) (r : Fin 2048) (j : Fin 1024) :
    k0_pay8 (F := Ideal) (part z t) e (ix2 r j) = Cert.ReferenceIdeal.Plain.oneHot z e (ix2 (row t r) j) := by
  rw [pay8_apply, Cert.ReferenceIdeal.Plain.oneHot_apply, near_eq hr]

/-- The fourth result at an index. -/
theorem hots_apply (hr : AllReal z e) (n : Fin 16384) (j : Fin 1024) :
    shapeCast S16384x1024 (hots z e) shapeCasts_S8x2048x1024_S16384x1024 (ix2 n j)
      = Cert.ReferenceIdeal.Plain.oneHot z e (ix2 n j) := by
  have h : shapeCast S16384x1024 (hots z e) shapeCasts_S8x2048x1024_S16384x1024 (ix2 n j)
      = hots z e (ix3 (⟨n / 2048, by omega⟩ : Fin 8) (⟨n % 2048, by omega⟩ : Fin 2048) j) := by
    generalize hots z e = q
    pointwise
  rw [h]
  show k0_pay9 (F := Ideal) (part z (⟨n / 2048, by omega⟩ : Fin 8)) e (ix3 0 (⟨n % 2048, by omega⟩ : Fin 2048) j) = _
  rw [pay9_apply, Cert.ReferenceIdeal.Plain.oneHot_apply, near_eq hr, row_split]

/-- The fourth result. -/
theorem hots_eq (hr : AllReal z e) : shapeCast S16384x1024 (hots z e) shapeCasts_S8x2048x1024_S16384x1024
    = Cert.ReferenceIdeal.Plain.oneHot z e := by
  funext i
  obtain ⟨n, j, rfl⟩ : ∃ (n : Fin 16384) (j : Fin 1024), i = ix2 n j := ⟨_, _, eq_ix2 i⟩
  exact hots_apply hr n j

/-- The fifth result at an index. -/
theorem nears_apply (hr : AllReal z e) (n : Fin 16384) :
    shapeCast S16384 (nears z e) shapeCasts_S8x1x2048_S16384 (ix1 n) = Cert.ReferenceIdeal.Plain.index z e (ix1 n) := by
  have h : shapeCast S16384 (nears z e) shapeCasts_S8x1x2048_S16384 (ix1 n)
      = nears z e (ix3 (⟨n / 2048, by omega⟩ : Fin 8) 0 (⟨n % 2048, by omega⟩ : Fin 2048)) := by
    generalize nears z e = q
    pointwise
  rw [h, Cert.ReferenceIdeal.Plain.index_near]
  show k0_pay7 (F := Ideal) (part z (⟨n / 2048, by omega⟩ : Fin 8)) e (ix3 0 0 (⟨n % 2048, by omega⟩ : Fin 2048)) = _
  rw [pay7_apply, near_eq hr, row_split]

/-- The fifth result. -/
theorem nears_eq (hr : AllReal z e) : shapeCast S16384 (nears z e) shapeCasts_S8x1x2048_S16384
    = Cert.ReferenceIdeal.Plain.index z e := by
  funext i
  obtain ⟨n, rfl⟩ : ∃ n : Fin 16384, i = ix1 n := ⟨_, eq_ix1 i⟩
  exact nears_apply hr n

/-- The difference of a picked row and the row itself, in the kernel. -/
theorem pay1_eq (hr : AllReal z e) (t : Fin 8) (r : Fin 2048) (k : Fin 64) :
    k0_pay1 (F := Ideal) (part z t) e (k0_pay8 (F := Ideal) (part z t) e) (ix2 r k)
      = Cert.ReferenceIdeal.Plain.picked z e (ix2 (row t r) k) - flat z (ix2 (row t r) k) := by
  rw [pay1_apply, Cert.ReferenceIdeal.Plain.picked_apply, part_apply]
  refine congrArg (· - flat z (ix2 (row t r) k)) (Finset.sum_congr rfl fun j _ => ?_)
  rw [pay8_apply, near_eq hr]

/-- The straight-through rows. -/
theorem throughs_apply (hr : AllReal z e) (n : Fin 16384) (k : Fin 64) : throughs z e (ix2 n k)
    = flat z (ix2 n k) + (Cert.ReferenceIdeal.Plain.picked z e (ix2 n k) - flat z (ix2 n k)) := by
  show k0_pay2 (F := Ideal) (part z (⟨n / 2048, by omega⟩ : Fin 8)) e
    (k0_pay8 (F := Ideal) (part z (⟨n / 2048, by omega⟩ : Fin 8)) e) (ix2 (⟨n % 2048, by omega⟩ : Fin 2048) k) = _
  rw [pay2_apply, pay1_eq hr, part_apply, row_split]

/-- The number of a pixel's row. -/
def pixel (b : Fin 16) (h w : Fin 32) : Fin 16384 := ⟨b * 1024 + h * 32 + w, by omega⟩

/-- The row of a pixel holds its channels. -/
theorem flat_pixel (b : Fin 16) (k : Fin 64) (h w : Fin 32) : flat z (ix2 (pixel b h w) k) = z (ix4 b k h w) := by
  rw [flat_apply]
  have h0 : (⟨(pixel b h w).val / 1024, by omega⟩ : Fin 16) = b := Fin.ext (by simp only [pixel]; omega)
  have h1 : (⟨(pixel b h w).val / 32 % 32, by omega⟩ : Fin 32) = h := Fin.ext (by simp only [pixel]; omega)
  have h2 : (⟨(pixel b h w).val % 32, by omega⟩ : Fin 32) = w := Fin.ext (by simp only [pixel]; omega)
  rw [h0, h1, h2]

/-- The picture at a pixel is the row's entry. -/
theorem pictureOf_apply (q : FVec Ideal S16384x64 .f32) (b : Fin 16) (k : Fin 64) (h w : Fin 32) :
    pictureOf q (ix4 b k h w) = q (ix2 (pixel b h w) k) := by
  pointwise [pictureOf]
  unfold pixel
  blk_ext

/-- The second result. -/
theorem picture_eq (hr : AllReal z e) : pictureOf (throughs z e) = Cert.ReferenceIdeal.Plain.through z e := by
  funext i
  obtain ⟨b, k, h, w, rfl⟩ : ∃ (b : Fin 16) (k : Fin 64) (h w : Fin 32), i = ix4 b k h w := ⟨_, _, _, _, eq_ix4 i⟩
  refine (pictureOf_apply _ b k h w).trans ((throughs_apply hr _ k).trans ?_)
  rw [flat_pixel]
  exact (Cert.ReferenceIdeal.Plain.through_apply z e b k h w).symm

/-- The counts from the blocks' column sums, at an index. -/
theorem countsOf_apply (q : FVec Ideal S8x1x1024 .f32) (j : Fin 1024) :
    countsOf q (ix1 j) = ∑ t : Fin 8, q (ix3 t 0 j) := by
  pointwise [countsOf]

/-- A sum over the rows is a sum over the blocks and over the rows of a block. -/
theorem sum_rows (f : Fin 16384 → EReal) : ∑ t : Fin 8, ∑ r : Fin 2048, f (row t r) = ∑ n, f n := by
  rw [← Fintype.sum_prod_type' (f := fun t r => f (row t r))]
  refine Fintype.sum_equiv ⟨fun p => row p.1 p.2, fun n => (⟨n / 2048, by omega⟩, ⟨n % 2048, by omega⟩), ?_, ?_⟩ _ _
    fun p => rfl
  · rintro ⟨t, r⟩
    exact Prod.ext (Fin.ext (by simp only [row]; omega)) (Fin.ext (by simp only [row]; omega))
  · exact fun n => row_split n

/-- The counts. -/
theorem counts_eq (hr : AllReal z e) : countsOf (columns z e) = Cert.ReferenceIdeal.Plain.counts z e := by
  funext i
  obtain ⟨j, rfl⟩ : ∃ j : Fin 1024, i = ix1 j := ⟨_, eq_ix1 i⟩
  refine (countsOf_apply _ j).trans (Eq.trans ?_ (Cert.ReferenceIdeal.Plain.counts_apply z e j).symm)
  refine Eq.trans ?_ (sum_rows fun n => Cert.ReferenceIdeal.Plain.oneHot z e (ix2 n j))
  refine Finset.sum_congr rfl fun t _ => ?_
  show k0_pay4 (F := Ideal) (k0_pay8 (F := Ideal) (part z t) e) (ix3 0 0 j) = _
  rw [pay4_apply]
  exact Finset.sum_congr rfl fun r _ => hot_eq hr t r j

/-- The third result. -/
theorem perplexity_eq (hr : AllReal z e) :
    perplexityOf (probsOf (countsOf (columns z e))) = Cert.ReferenceIdeal.Plain.perplexity z e := by
  rw [counts_eq hr]
  rfl

/-- The square of the difference of a row's picked row and the row itself, at a channel. -/
def square (z : FVec Ideal S16x64x32x32 .f32) (e : FVec Ideal S1024x64 .f32) (n : Fin 16384) (k : Fin 64) : EReal :=
  (Cert.ReferenceIdeal.Plain.picked z e (ix2 n k) - flat z (ix2 n k))
    * (Cert.ReferenceIdeal.Plain.picked z e (ix2 n k) - flat z (ix2 n k))

/-- A sum over the eight blocks' single entries is a sum over the blocks. -/
theorem sum_blocks (f : S8x1x1.Idx → EReal) : ∑ i, f i = ∑ t : Fin 8, f (ix3 t 0 0) := by
  refine Fintype.sum_equiv ⟨fun i => i 0, fun t => ix3 t 0 0, fun i => ?_, fun t => rfl⟩ _ _ fun i => ?_
  · blk_ext
  · show f i = f (ix3 (i 0) 0 0)
    refine congrArg f ?_
    blk_ext

/-- The place in the picture of a row's entry. -/
def place (n : Fin 16384) (k : Fin 64) : S16x64x32x32.Idx :=
  ix4 (⟨n / 1024, by omega⟩ : Fin 16) k (⟨n / 32 % 32, by omega⟩ : Fin 32) (⟨n % 32, by omega⟩ : Fin 32)

/-- The row of a place in the picture. -/
def rowAt (i : S16x64x32x32.Idx) : Fin 16384 := pixel (show Fin 16 from i 0) (show Fin 32 from i 2) (show Fin 32 from i 3)

/-- The place of a pixel's entry is the pixel and the channel. -/
theorem place_pixel (b : Fin 16) (k : Fin 64) (h w : Fin 32) : place (pixel b h w) k = ix4 b k h w := by
  have h0 : (⟨(pixel b h w).val / 1024, by omega⟩ : Fin 16) = b := Fin.ext (by simp only [pixel]; omega)
  have h1 : (⟨(pixel b h w).val / 32 % 32, by omega⟩ : Fin 32) = h := Fin.ext (by simp only [pixel]; omega)
  have h2 : (⟨(pixel b h w).val % 32, by omega⟩ : Fin 32) = w := Fin.ext (by simp only [pixel]; omega)
  unfold place
  rw [h0, h1, h2]

/-- The pixel of a row is the row. -/
theorem pixel_of (n : Fin 16384) : pixel (⟨n / 1024, by omega⟩ : Fin 16) (⟨n / 32 % 32, by omega⟩ : Fin 32)
    (⟨n % 32, by omega⟩ : Fin 32) = n := by
  apply Fin.ext
  simp only [pixel]
  omega

/-- Entries of rows and places in the picture, one for one. -/
def places : Fin 16384 × Fin 64 ≃ S16x64x32x32.Idx where
  toFun p := place p.1 p.2
  invFun i := (rowAt i, (show Fin 64 from i 1))
  left_inv := by
    rintro ⟨n, k⟩
    exact Prod.ext (pixel_of n) rfl
  right_inv := by
    intro i
    obtain ⟨b, k, h, w, rfl⟩ : ∃ (b : Fin 16) (k : Fin 64) (h w : Fin 32), i = ix4 b k h w := ⟨_, _, _, _, eq_ix4 i⟩
    exact place_pixel b k h w

/-- A sum over the picture is a sum over the rows and over the channels. -/
theorem sum_picture (f : S16x64x32x32.Idx → EReal) : ∑ i, f i = ∑ n : Fin 16384, ∑ k : Fin 64, f (place n k) := by
  rw [← Fintype.sum_prod_type' (f := fun (n : Fin 16384) (k : Fin 64) => f (place n k))]
  exact (Fintype.sum_equiv places _ _ fun p => rfl).symm

/-- The kernel's sum of squares. -/
theorem squares_sum (hr : AllReal z e) : ∑ i, squares z e i = ∑ n, ∑ k, square z e n k := by
  rw [sum_blocks, ← sum_rows]
  refine Finset.sum_congr rfl fun t _ => ?_
  show k0_pay3 (F := Ideal) (part z t) e (k0_pay8 (F := Ideal) (part z t) e) (ix3 0 0 0) = _
  rw [pay3_apply]
  refine Finset.sum_congr rfl fun r _ => Finset.sum_congr rfl fun k _ => ?_
  rw [pay1_eq hr, square]

/-- The reference's difference at a pixel. -/
theorem diff_pixel (b : Fin 16) (k : Fin 64) (h w : Fin 32) :
    subf (Cert.ReferenceIdeal.Plain.quant z e) z (ix4 b k h w)
      = Cert.ReferenceIdeal.Plain.picked z e (ix2 (pixel b h w) k) - flat z (ix2 (pixel b h w) k) := by
  rw [flat_pixel]
  exact Cert.ReferenceIdeal.Plain.diff_apply z e b k h w

/-- The reference's sum of squares. -/
theorem plain_sum : ∑ i : S16x64x32x32.Idx, mulf (F := Ideal) (φ := .f32) (subf (Cert.ReferenceIdeal.Plain.quant z e) z)
      (subf (Cert.ReferenceIdeal.Plain.quant z e) z) i = ∑ n, ∑ k, square z e n k := by
  rw [sum_picture]
  refine Finset.sum_congr rfl fun n _ => Finset.sum_congr rfl fun k _ => ?_
  show subf (Cert.ReferenceIdeal.Plain.quant z e) z _ * subf (Cert.ReferenceIdeal.Plain.quant z e) z _ = _
  unfold place
  rw [diff_pixel, pixel_of, square]

/-- A sum over every axis, from the word of zero. -/
theorem total {s : Shape} {axes : List (Fin s.rank)} (x : FVec Ideal s .f32) (h : s.ReducesTo axes S_)
    (j : S_.Idx) : Host.reduceAdd x (constant (F := Ideal) S_ .f32 0x00000000#32) h h_S_ j
      = Ideal.ofBits .f32 0x00000000#32 + ∑ i, x i :=
  Ideal.hostReduceAdd_total h (by decide) x _ j

/-- The two sums of squares are one array. -/
theorem sums_eq (hr : AllReal z e) :
    Host.reduceAdd (squares z e) (constant (F := Ideal) S_ .f32 0x00000000#32) reducesTo_S8x1x1_S_d0_1_2 h_S_
      = Host.reduceAdd (mulf (subf (Cert.ReferenceIdeal.Plain.quant z e) z) (subf (Cert.ReferenceIdeal.Plain.quant z e) z))
        (constant (F := Ideal) S_ .f32 0x00000000#32) Cert.ReferenceIdeal.Gen.reducesTo_S16x64x32x32_S_d0_1_2_3 h_S_ := by
  funext j
  rw [total, squares_sum hr, total]
  exact congrArg (Ideal.ofBits .f32 0x00000000#32 + ·) plain_sum.symm

/-- The first result. -/
theorem loss_eq (hr : AllReal z e) : lossOf (squares z e) = Cert.ReferenceIdeal.Plain.loss z e := by
  unfold lossOf
  rw [sums_eq hr]
  rfl

end Cert.Vq

end
-- ==== Proof.lean ====
/-
  The proof of `Cert.Claim`: the kernel, its ideal reading and the reference each run, leave their arguments
  unchanged and end with every semaphore counter at zero; the ideal reading is the kernel's own text; and on
  arguments without infinities the ideal kernel and the reference end with equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Vq.RefRun
public import proofs.«01_k».proof.Proof.Vq.Tail
public import proofs.«01_k».proof.Proof.Vq.Equation

@[expose] public section

noncomputable section

namespace Cert.Proof

open Idealize.ShloMosaic Idealize.SL.Sem

/-- On arguments without infinities the ideal kernel and the reference end with the same five results: those that the
    plain mathematics gives. -/
theorem algebraic : Cert.algebraic_KernelIdeal_ReferenceIdeal_pre_finite := by
  intro m g m' g' hpre hagree
  have hr := fun c => Cert.Vq.allReal_of_finite _ _ (hpre c)
  let Z : Dev Cert.KernelIdeal.nD → FVec Ideal Cert.KernelIdeal.S16x64x32x32 .f32 := fun c =>
    m ((c.tc : Thread Cert.KernelIdeal.nD Cert.KernelIdeal.τ).loc Cert.KernelIdeal.main_arg0)
  let E : Dev Cert.KernelIdeal.nD → FVec Ideal Cert.KernelIdeal.S1024x64 .f32 := fun c =>
    m ((c.tc : Thread Cert.KernelIdeal.nD Cert.KernelIdeal.τ).loc Cert.KernelIdeal.main_arg1)
  refine ⟨fun c => Cert.ReferenceIdeal.Plain.loss (Z c) (E c),
    fun c => Cert.ReferenceIdeal.Plain.through (Z c) (E c),
    fun c => Cert.ReferenceIdeal.Plain.perplexity (Z c) (E c),
    fun c => Cert.ReferenceIdeal.Plain.oneHot (Z c) (E c),
    fun c => Cert.ReferenceIdeal.Plain.index (Z c) (E c),
    (θ_run _ _ _).mono (fun r h c => ?_) (Cert.KernelIdeal.Tile.run m g),
    (θ_run _ _ _).mono (fun r h c => ?_) (Cert.ReferenceIdeal.Plain.run m' g')⟩
  · obtain ⟨h0, h1, h2, h3, h4, h5, h6⟩ := h c
    exact ⟨h0.trans (Cert.Vq.loss_eq (hr c)), h1.trans (Cert.Vq.picture_eq (hr c)),
      h2.trans (Cert.Vq.perplexity_eq (hr c)), h3.trans (Cert.Vq.hots_eq (hr c)), h4.trans (Cert.Vq.nears_eq (hr c)),
      h5, h6⟩
  · obtain ⟨h0, h1, h2, h3, h4, h5, h6⟩ := h c
    rw [(hagree c).1, (hagree c).2] at h0 h1 h2 h3 h4
    exact ⟨h0, h1, h2, h3, h4, h5, h6⟩

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Plain.frame m ρ,
    fun m ρ _ => Cert.ReferenceIdeal.Plain.frame m ρ, trivial, algebraic⟩

end Cert.Proof

end
